-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x3x512x512 : Shape := ⟨4, ![16, 3, 512, 512]⟩
abbrev S8 : Shape := ⟨1, ![8]⟩
abbrev S_ : Shape := ⟨0, ![]⟩
abbrev S48x1x262144 : Shape := ⟨3, ![48, 1, 262144]⟩
abbrev S1x8 : Shape := ⟨2, ![1, 8]⟩
abbrev S1x1 : Shape := ⟨2, ![1, 1]⟩
abbrev S48x8x1 : Shape := ⟨3, ![48, 8, 1]⟩
abbrev S48x8x262144 : Shape := ⟨3, ![48, 8, 262144]⟩
abbrev S1x1x32768 : Shape := ⟨3, ![1, 1, 32768]⟩
abbrev S1x8x1 : Shape := ⟨3, ![1, 8, 1]⟩
abbrev S1x8x32768 : Shape := ⟨3, ![1, 8, 32768]⟩
abbrev S32768 : Shape := ⟨1, ![32768]⟩
abbrev S1x32768 : Shape := ⟨2, ![1, 32768]⟩
abbrev S8x1 : Shape := ⟨2, ![8, 1]⟩
abbrev S8x32768 : Shape := ⟨2, ![8, 32768]⟩
abbrev S16x24 : Shape := ⟨2, ![16, 24]⟩
abbrev S16x24x262144 : Shape := ⟨3, ![16, 24, 262144]⟩

abbrev nBuf : Space → Nat
  | .hbm => 10
  | .vmem => 8
  | .smem => 0
  | _ => 0

abbrev bufTy : (tb : Table) → Fin (tcTables nBuf tb) → BufTy
  | .hbm, ⟨0, _⟩ => ⟨S16x3x512x512, .f32⟩
  | .hbm, ⟨1, _⟩ => ⟨S8, .f32⟩
  | .hbm, ⟨2, _⟩ => ⟨S_, .f32⟩
  | .hbm, ⟨3, _⟩ => ⟨S48x1x262144, .f32⟩
  | .hbm, ⟨4, _⟩ => ⟨S1x8, .f32⟩
  | .hbm, ⟨5, _⟩ => ⟨S1x1, .f32⟩
  | .hbm, ⟨6, _⟩ => ⟨S48x8x1, .f32⟩
  | .hbm, ⟨7, _⟩ => ⟨S48x8x262144, .f32⟩
  | .hbm, ⟨8, _⟩ => ⟨S16x24, .f32⟩
  | .hbm, ⟨9, _⟩ => ⟨S16x24x262144, .f32⟩
  | .local _ .vmem, ⟨0, _⟩ => ⟨S1x1x32768, .f32⟩
  | .local _ .vmem, ⟨1, _⟩ => ⟨S1x1x32768, .f32⟩
  | .local _ .vmem, ⟨2, _⟩ => ⟨S1x8, .f32⟩
  | .local _ .vmem, ⟨3, _⟩ => ⟨S1x1, .f32⟩
  | .local _ .vmem, ⟨4, _⟩ => ⟨S1x8x1, .f32⟩
  | .local _ .vmem, ⟨5, _⟩ => ⟨S1x8x1, .f32⟩
  | .local _ .vmem, ⟨6, _⟩ => ⟨S1x8x32768, .f32⟩
  | .local _ .vmem, ⟨7, _⟩ => ⟨S1x8x32768, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![48, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x32768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16x3x512x512 : Shape := ⟨4, ![16, 3, 512, 512]⟩
abbrev S8 : Shape := ⟨1, ![8]⟩
abbrev S_ : Shape := ⟨0, ![]⟩
abbrev S16x3x1x512x512 : Shape := ⟨5, ![16, 3, 1, 512, 512]⟩
abbrev S1x1x8x1x1 : Shape := ⟨5, ![1, 1, 8, 1, 1]⟩
abbrev S16x3x8x512x512 : Shape := ⟨5, ![16, 3, 8, 512, 512]⟩
abbrev S16x24x262144 : Shape := ⟨3, ![16, 24, 262144]⟩
abbrev S16x24 : Shape := ⟨2, ![16, 24]⟩

abbrev nBuf : Space → Nat
  | .hbm => 26
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S8, .f32⟩
  | .hbm, ⟨2, _⟩ => ⟨S_, .f32⟩
  | .hbm, ⟨3, _⟩ => ⟨S16x3x1x512x512, .f32⟩
  | .hbm, ⟨4, _⟩ => ⟨S1x1x8x1x1, .f32⟩
  | .hbm, ⟨5, _⟩ => ⟨S16x3x8x512x512, .f32⟩
  | .hbm, ⟨6, _⟩ => ⟨S16x3x8x512x512, .f32⟩
  | .hbm, ⟨7, _⟩ => ⟨S16x3x8x512x512, .f32⟩
  | .hbm, ⟨8, _⟩ => ⟨S16x3x8x512x512, .f32⟩
  | .hbm, ⟨9, _⟩ => ⟨S16x3x8x512x512, .f32⟩
  | .hbm, ⟨10, _⟩ => ⟨S16x3x8x512x512, .f32⟩
  | .hbm, ⟨11, _⟩ => ⟨S_, .f32⟩
  | .hbm, ⟨12, _⟩ => ⟨S16x3x8x512x512, .f32⟩
  | .hbm, ⟨13, _⟩ => ⟨S16x3x8x512x512, .f32⟩
  | .hbm, ⟨14, _⟩ => ⟨S_, .f32⟩
  | .hbm, ⟨15, _⟩ => ⟨S16x3x8x512x512, .f32⟩
  | .hbm, ⟨16, _⟩ => ⟨S16x3x8x512x512, .i1⟩
  | .hbm, ⟨17, _⟩ => ⟨S_, .f32⟩
  | .hbm, ⟨18, _⟩ => ⟨S16x3x8x512x512, .f32⟩
  | .hbm, ⟨19, _⟩ => ⟨S16x3x8x512x512, .f32⟩
  | .hbm, ⟨20, _⟩ => ⟨S16x24x262144, .f32⟩
  | .hbm, ⟨21, _⟩ => ⟨S_, .f32⟩
  | .hbm, ⟨22, _⟩ => ⟨S16x24, .f32⟩
  | .hbm, ⟨23, _⟩ => ⟨S_, .f32⟩
  | .hbm, ⟨24, _⟩ => ⟨S16x24, .f32⟩
  | .hbm, ⟨25, _⟩ => ⟨S16x24, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Proof.Bins.lean ====
module

public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Bins

open Cert.KernelIdeal Cert.KernelIdeal.Gen

/-- The soft bin of a pixel `x` at a centre `c` and a width `w`: `1.01 ^ (w - |x - c|)` where that exceeds one,
    zero elsewhere. -/
def bin (x c w : EReal) : EReal :=
  if 1 < Ideal.pow (Ideal.ofBits FTy.f32 0x3F8147AE#32) (w - FloatOps.absf (F := Ideal) (φ := .f32) (x - c))
  then Ideal.pow (Ideal.ofBits FTy.f32 0x3F8147AE#32) (w - FloatOps.absf (F := Ideal) (φ := .f32) (x - c))
  else 0

/-- Equal arguments have equal bins. -/
theorem bin_congr {x x' c c' w w' : EReal} (hx : x = x') (hc : c = c') (hw : w = w') :
    bin x c w = bin x' c' w' := by
  rw [hx, hc, hw]

/-- The bin values of a block, entry by entry. -/
theorem pay2_at (x : Vec Ideal S1x1x32768 .f32) (c : Vec Ideal S1x8 .f32) (w : Vec Ideal S1x1 .f32)
    (i : Fin 8) (k : Fin 32768) :
    k0_pay2 (F := Ideal) x c w (ix2 i k) = bin (x (ix3 0 0 k)) (c (ix2 0 i)) (w (ix2 0 0)) := by
  pointwise [k0_pay2]
  rfl

/-- What is stored of a block's bin values: the same, under a leading axis of length one. -/
theorem pay3_at (x : Vec Ideal S1x1x32768 .f32) (c : Vec Ideal S1x8 .f32) (w : Vec Ideal S1x1 .f32)
    (j : S1x8x32768.Idx) :
    k0_pay3 (F := Ideal) x c w j = bin (x (ix3 0 0 (j 2))) (c (ix2 0 (j 1))) (w (ix2 0 0)) := by
  pointwise [k0_pay3]
  exact pay2_at x c w (j 1) (j 2)

/-- One step of the accumulation: the sum of the block's bin values is added to what is there. -/
theorem pay5_at (x : Vec Ideal S1x1x32768 .f32) (c : Vec Ideal S1x8 .f32) (w : Vec Ideal S1x1 .f32)
    (acc : Vec Ideal S1x8x1 .f32) (j : S1x8x1.Idx) :
    k0_pay5 (F := Ideal) x c w acc j
      = acc j + ∑ k : Fin 32768, bin (x (ix3 0 0 k)) (c (ix2 0 (j 1))) (w (ix2 0 0)) := by
  pointwise [k0_pay5]
  exact congrArg (acc j + ·) (Finset.sum_congr rfl fun k _ => pay2_at x c w (j 1) k)

/-- The last step scales the accumulated sums. -/
theorem pay1_at (acc : Vec Ideal S1x8x1 .f32) (j : S1x8x1.Idx) :
    k0_pay1 (F := Ideal) acc j = acc j * Ideal.div 1 (Ideal.ofBits FTy.f32 0x48800000#32) := by
  pointwise [k0_pay1]

/-- The accumulator starts at zero. -/
theorem pay4_at (j : S1x8x1.Idx) : k0_pay4 (F := Ideal) j = 0 := by
  pointwise [k0_pay4]

variable (m : (ℓ : Loc nD τ sig) → Buf (Elt Ideal) ℓ)

/-- The block each window stages at a point. -/
theorem idx_val : ∀ t : Fin cfg0.N,
    win0_0.index t = ![t.val / 8, 0, t.val % 8] ∧ win0_1.index t = ![0, 0] ∧ win0_2.index t = ![0, 0] ∧
    win0_3.index t = ![t.val / 8, 0, 0] ∧ win0_4.index t = ![t.val / 8, 0, t.val % 8] :=
  (by decide +kernel : ∀ t : Fin grid0.N, _)

/-- The array of bin values, of pixels by rows, centres and width. -/
def twoD (xs : Vec Ideal S48x1x262144 .f32) (cs : Vec Ideal S1x8 .f32) (ws : Vec Ideal S1x1 .f32) :
    Vec Ideal S48x8x262144 .f32 :=
  fun i => bin (xs (ix3 (i 0) 0 (i 2))) (cs (ix2 0 (i 1))) (ws (ix2 0 0))

/-- The array of scaled sums of bin values. -/
def oneD (xs : Vec Ideal S48x1x262144 .f32) (cs : Vec Ideal S1x8 .f32) (ws : Vec Ideal S1x1 .f32) :
    Vec Ideal S48x8x1 .f32 :=
  fun i => (∑ k : Fin 262144, bin (xs (ix3 (i 0) 0 k)) (cs (ix2 0 (i 1))) (ws (ix2 0 0)))
    * Ideal.div 1 (Ideal.ofBits FTy.f32 0x48800000#32)

/-- What a point stores of the bin values, in terms of the arrays the region reads. -/
theorem point4 (c : Dev nD) (t : Fin cfg0.N) (y : S1x8x32768.Idx) (j : S48x8x262144.Idx)
    (hj0 : (j 0 : ℕ) = t.val / 8) (hj1 : (j 1 : ℕ) = y 1) (hj2 : (j 2 : ℕ) = t.val % 8 * 32768 + y 2) :
    k0_pay3 (F := Ideal) (iblk m c 0 t) (iblk m c 1 t) (iblk m c 2 t) y
      = twoD (V m c main_v0) (V m c main_v1) (V m c main_v2) j := by
  rw [pay3_at]
  refine bin_congr ?_ ?_ ?_
  · blk_ext [iblk, V, idx_val t]
  · blk_ext [iblk, V, idx_val t]
  · blk_ext [iblk, V, idx_val t]

/-- The region's second result is the array of bin values. -/
theorem final4 (c : Dev nD) :
    (dats m 0 c).arrAt 4 (cfgs 0).N = twoD (V m c main_v0) (V m c main_v1) (V m c main_v2) := by
  refine (dats m 0 c).arrAt_eq_of_covers 4 _ (by decide +kernel) fun t hf y => ?_
  blk_simp
  rw [after0_4]
  have hp := point4 m c t y
  by_cases h0 : t.val % 8 = 0
  · rw [outsAt0_A m c t h0 (by omega)]
    frame_out
    refine hp _ ?_ ?_ ?_ <;> (blk_simp [idx_val t] <;> try omega)
  · by_cases h1 : t.val % 8 = 7
    · rw [outsAt0_C m c t h0 h1]
      frame_out
      refine hp _ ?_ ?_ ?_ <;> (blk_simp [idx_val t] <;> try omega)
    · rw [outsAt0_B m c t h0 h1]
      frame_out
      refine hp _ ?_ ?_ ?_ <;> (blk_simp [idx_val t] <;> try omega)

/-- What a point adds to the sums: its block's bin values, summed. -/
def part (c : Dev nD) (t : Fin cfg0.N) (y : S1x8x1.Idx) : EReal :=
  ∑ k : Fin 32768, bin ((show Vec Ideal S1x1x32768 .f32 from iblk m c 0 t) (ix3 0 0 k))
    ((show Vec Ideal S1x8 .f32 from iblk m c 1 t) (ix2 0 (y 1)))
    ((show Vec Ideal S1x1 .f32 from iblk m c 2 t) (ix2 0 0))

/-- The sums after a point, before the scaling the last point of a row applies. -/
def sums (c : Dev nD) (n : ℕ) (h : n < cfg0.N) (y : S1x8x1.Idx) : EReal :=
  if n % 8 = 7 then
    (show Vec Ideal S1x8x1 .f32 from (outsAt0 m c (n - 1) (Nat.lt_of_le_of_lt (Nat.sub_le _ _) h)).1) y
      + part m c ⟨n, h⟩ y
  else (show Vec Ideal S1x8x1 .f32 from (outsAt0 m c n h).1) y

/-- At the first point of a row the sums are that point's. -/
theorem sums_first (c : Dev nD) (t : Fin cfg0.N) (h : t.val % 8 = 0) (y : S1x8x1.Idx) :
    sums m c t.val t.isLt y = 0 + part m c t y := by
  unfold sums
  rw [if_neg (by omega), outsAt0_A m c t h (by omega)]
  frame_out
  rw [pay5_at, pay4_at]
  rfl

/-- At a later point of a row the point's sums are added to those before. -/
theorem sums_next (c : Dev nD) (t : Fin cfg0.N) (h : ¬t.val % 8 = 0) (y : S1x8x1.Idx) :
    sums m c t.val t.isLt y
      = sums m c (t.val - 1) (Nat.lt_of_le_of_lt (Nat.sub_le _ _) t.isLt) y + part m c t y := by
  unfold sums
  rw [if_neg (c := (t.val - 1) % 8 = 7) (by omega)]
  by_cases h1 : t.val % 8 = 7
  · rw [if_pos h1]
  · rw [if_neg h1, outsAt0_B m c t h h1]
    frame_out
    rw [pay5_at]
    rfl

/-- At the last point of a row the stored block is the scaled sums. -/
theorem outs_last (c : Dev nD) (t : Fin cfg0.N) (h : t.val % 8 = 7) (y : S1x8x1.Idx) :
    (show Vec Ideal S1x8x1 .f32 from (outsAt0 m c t.val t.isLt).1) y
      = sums m c t.val t.isLt y * Ideal.div 1 (Ideal.ofBits FTy.f32 0x48800000#32) := by
  unfold sums
  rw [if_pos h, outsAt0_C m c t (by omega) h]
  frame_out
  rw [pay1_at, pay5_at]
  rfl

/-- The region's first result is the array of scaled sums. -/
theorem final3 (c : Dev nD) :
    (dats m 0 c).arrAt 3 (cfgs 0).N = oneD (V m c main_v0) (V m c main_v1) (V m c main_v2) := by
  refine (dats m 0 c).arrAt_eq_of_covers 3 _ (by decide +kernel) fun t hf y => ?_
  blk_simp
  rw [after0_3]
  have ht := (flush0_3 t).mp hf
  refine (outs_last m c t ht y).trans ?_
  unfold oneD
  refine congrArg (· * Ideal.div 1 (Ideal.ofBits FTy.f32 0x48800000#32)) ?_
  rw [Pipeline.eq_sum_fin_of_reset_step_apply_of_flush (fun n h => sums m c n h) 8 (fun _ => 0) (part m c)
    (fun t h j => sums_first m c t h j) (fun t h j => sums_next m c t h j) t ht y, zero_add]
  unfold part
  refine Fin.sum_mul_add_congr fun s k hl => ?_
  refine bin_congr ?_ ?_ ?_
  all_goals blk_ext [iblk, V, idx_val t, idx_val ⟨_, Pipeline.run_point_lt_of_flush t ((flush0_3 t).mp hf) s⟩]

end Cert.KernelIdeal.Bins
-- ==== Proof.Results.lean ====
module

public import proofs.«01_k».proof.Proof.Bins

@[expose] public section

set_option maxRecDepth 16384

noncomputable section

open Idealize.ShloMosaic Idealize.ShloMosaic.TcCoe Idealize.SL.Sem
open Idealize.ShloMosaic.Pipeline (Dat)

namespace Cert.KernelIdeal.Bins

open Cert.KernelIdeal Cert.KernelIdeal.Gen

/-- The bin value of image `a`, channel and bin `b` (eight bins a channel), pixel `k` (512 a line). -/
def binAt (X : Vec Ideal S16x3x512x512 .f32) (C : Vec Ideal S8 .f32) (W : Vec Ideal S_ .f32)
    (a : Fin 16) (b : Fin 24) (k : Fin 262144) : EReal :=
  bin (X (ix4 a ⟨b.val / 8, by omega⟩ ⟨k.val / 512, by omega⟩ ⟨k.val % 512, by omega⟩))
    (C (ix1 ⟨b.val % 8, by omega⟩)) (W ix0)

variable (m : (ℓ : Loc nD τ sig) → Buf (Elt Ideal) ℓ)

/-- The pixels the region reads are the images', a row to an image and channel. -/
theorem entry0 (c : Dev nD) :
    V m c main_v0 = shapeCast S48x1x262144 (m ((c : Thread nD τ).loc main_arg0))
      shapeCasts_S16x3x512x512_S48x1x262144 := by
  entry_read
  try rfl

/-- The centres the region reads are the argument's. -/
theorem entry1 (c : Dev nD) :
    V m c main_v1 = shapeCast S1x8 (m ((c : Thread nD τ).loc main_arg1)) shapeCasts_S8_S1x8 := by
  entry_read
  try rfl

/-- The width the region reads is the argument. -/
theorem entry2 (c : Dev nD) :
    V m c main_v2 = shapeCast S1x1 (m ((c : Thread nD τ).loc main_arg2)) shapeCasts_S_S1x1 := by
  entry_read
  try rfl

/-- The second result, in terms of the arguments. -/
theorem twoD_at (X : Vec Ideal S16x3x512x512 .f32) (C : Vec Ideal S8 .f32) (W : Vec Ideal S_ .f32)
    (i : S16x24x262144.Idx) :
    shapeCast S16x24x262144 (twoD (shapeCast S48x1x262144 X shapeCasts_S16x3x512x512_S48x1x262144)
      (shapeCast S1x8 C shapeCasts_S8_S1x8) (shapeCast S1x1 W shapeCasts_S_S1x1))
      shapeCasts_S48x8x262144_S16x24x262144 i = binAt X C W (i 0) (i 1) (i 2) := by
  pointwise [twoD, binAt]
  refine bin_congr ?_ rfl rfl
  blk_ext

/-- The first result, in terms of the arguments. -/
theorem oneD_at (X : Vec Ideal S16x3x512x512 .f32) (C : Vec Ideal S8 .f32) (W : Vec Ideal S_ .f32)
    (i : S16x24.Idx) :
    shapeCast S16x24 (oneD (shapeCast S48x1x262144 X shapeCasts_S16x3x512x512_S48x1x262144)
      (shapeCast S1x8 C shapeCasts_S8_S1x8) (shapeCast S1x1 W shapeCasts_S_S1x1))
      shapeCasts_S48x8x1_S16x24 i = (∑ k : Fin 262144, binAt X C W (i 0) (i 1) k)
        * Ideal.div 1 (Ideal.ofBits FTy.f32 0x48800000#32) := by
  pointwise [oneD, binAt]
  refine congrArg (· * Ideal.div 1 (Ideal.ofBits FTy.f32 0x48800000#32)) ?_
  refine Finset.sum_congr rfl fun k _ => bin_congr ?_ rfl rfl
  blk_ext

/-- The second result buffer after the host operations that follow the region. -/
theorem tail5 (c : Dev nD) :
    Pipeline.afterTail₀ cfgs (dats m) 0 (V0 m) [hostOps1] c main_v5
      = shapeCast S16x24x262144 ((dats m 0 c).arrAt 4 (cfgs 0).N) shapeCasts_S48x8x262144_S16x24x262144 := by
  unfold Pipeline.afterTail₀
  simp only [List.flatten_cons, List.flatten_nil, List.append_nil]
  after_results
  exact congrArg (fun z => shapeCast S16x24x262144 z shapeCasts_S48x8x262144_S16x24x262144)
    (Pipeline.withArrays_arr (cfgs 0).spec winFacts0.arr_inj c (V0 m c)
      (fun w => (dats m 0 c).arrAt w (cfgs 0).N) 4)

/-- The first result buffer after the host operations that follow the region. -/
theorem tail4 (c : Dev nD) :
    Pipeline.afterTail₀ cfgs (dats m) 0 (V0 m) [hostOps1] c main_v4
      = shapeCast S16x24 ((dats m 0 c).arrAt 3 (cfgs 0).N) shapeCasts_S48x8x1_S16x24 := by
  unfold Pipeline.afterTail₀
  simp only [List.flatten_cons, List.flatten_nil, List.append_nil]
  after_results
  exact congrArg (fun z => shapeCast S16x24 z shapeCasts_S48x8x1_S16x24)
    (Pipeline.withArrays_arr (cfgs 0).spec winFacts0.arr_inj c (V0 m c)
      (fun w => (dats m 0 c).arrAt w (cfgs 0).N) 3)

/-- The second result at the end of the run, entry by entry. -/
theorem result5 (c : Dev nD) :
    Pipeline.afterTail₀ cfgs (dats m) 0 (V0 m) [hostOps1] c main_v5
      = fun i : S16x24x262144.Idx => binAt (m ((c : Thread nD τ).loc main_arg0))
          (m ((c : Thread nD τ).loc main_arg1)) (m ((c : Thread nD τ).loc main_arg2)) (i 0) (i 1) (i 2) := by
  rw [tail5, final4, entry0, entry1, entry2]
  exact funext fun i => twoD_at _ _ _ i

/-- The first result at the end of the run, entry by entry. -/
theorem result4 (c : Dev nD) :
    Pipeline.afterTail₀ cfgs (dats m) 0 (V0 m) [hostOps1] c main_v4
      = fun i : S16x24.Idx => (∑ k : Fin 262144, binAt (m ((c : Thread nD τ).loc main_arg0))
          (m ((c : Thread nD τ).loc main_arg1)) (m ((c : Thread nD τ).loc main_arg2)) (i 0) (i 1) k)
          * Ideal.div 1 (Ideal.ofBits FTy.f32 0x48800000#32) := by
  rw [tail4, final3, entry0, entry1, entry2]
  exact funext fun i => oneD_at _ _ _ i

end Cert.KernelIdeal.Bins
-- ==== Proof.Ref.lean ====
module

public import proofs.«01_k».proof.Proof.Results
public import proofs.«01_k».proof.Proof.Gen.ReferenceIdeal

@[expose] public section

set_option maxRecDepth 16384

noncomputable section

open Idealize.ShloMosaic Idealize.ShloMosaic.TcCoe Idealize.SL.Sem

namespace Cert.ReferenceIdeal.Bins

open Cert.ReferenceIdeal Cert.ReferenceIdeal.Gen
open Cert.KernelIdeal.Bins (bin binAt)

/-- The reference's power `1.01 ^ (W - |X - C|)`, over images, channels, bins and pixels. -/
def power (X : Vec Ideal S16x3x512x512 .f32) (C : Vec Ideal S8 .f32) (W : Vec Ideal S_ .f32) :
    FVec Ideal S16x3x8x512x512 .f32 :=
  Host.powf (broadcastInDim S16x3x8x512x512 ![] bcast_S_S16x3x8x512x512 (constant S_ .f32 0x3F8147AE#32))
    (subf (broadcastInDim S16x3x8x512x512 ![] bcast_S_S16x3x8x512x512 W)
      (Host.absf
        (subf
          (broadcastInDim S16x3x8x512x512 ![0, 1, 2, 3, 4] bcast_S16x3x1x512x512_S16x3x8x512x512_0_1_2_3_4
            (broadcastInDim S16x3x1x512x512 ![0, 1, 3, 4] bcast_S16x3x512x512_S16x3x1x512x512_0_1_3_4 X))
          (broadcastInDim S16x3x8x512x512 ![0, 1, 2, 3, 4] bcast_S1x1x8x1x1_S16x3x8x512x512_0_1_2_3_4
            (broadcastInDim S1x1x8x1x1 ![2] bcast_S8_S1x1x8x1x1_2 C)))))

/-- The reference's bin values: the power where it exceeds one, zero elsewhere, with bins beside their channel. -/
def bins (X : Vec Ideal S16x3x512x512 .f32) (C : Vec Ideal S8 .f32) (W : Vec Ideal S_ .f32) :
    FVec Ideal S16x24x262144 .f32 :=
  shapeCast S16x24x262144
    (select (cmpf .ogt (power X C W)
        (broadcastInDim S16x3x8x512x512 ![] bcast_S_S16x3x8x512x512 (constant S_ .f32 0x3F800000#32)))
      (power X C W)
      (broadcastInDim S16x3x8x512x512 ![] bcast_S_S16x3x8x512x512 (constant (F := Ideal) S_ .f32 0x00000000#32)))
    shapeCasts_S16x3x8x512x512_S16x24x262144

/-- The reference's means of the bin values over the pixels. -/
def means (X : Vec Ideal S16x3x512x512 .f32) (C : Vec Ideal S8 .f32) (W : Vec Ideal S_ .f32) :
    FVec Ideal S16x24 .f32 :=
  Host.divf
    (Host.reduceAdd (bins X C W) (constant S_ .f32 0x00000000#32) reducesTo_S16x24x262144_S16x24_d2 h_S_)
    (broadcastInDim S16x24 ![] bcast_S_S16x24 (constant S_ .f32 0x48800000#32))

/-- The reference's bin values, entry by entry. -/
theorem bins_at (X : Vec Ideal S16x3x512x512 .f32) (C : Vec Ideal S8 .f32) (W : Vec Ideal S_ .f32)
    (i : S16x24x262144.Idx) : bins X C W i = binAt X C W (i 0) (i 1) (i 2) := by
  pointwise [bins, power, binAt, bin]

/-- Division by the number of pixels is multiplication by its reciprocal. -/
theorem div_pixels (s : EReal) :
    Ideal.div s (Ideal.ofBits FTy.f32 0x48800000#32) = s * ((1 / 262144 : ℝ) : EReal) := by
  have h : Ideal.ofBits FTy.f32 0x48800000#32 = ((262144 : ℝ) : EReal) := by
    simp [Ideal.ofBits, Ideal.ieee, -EReal.coe_mul]
    norm_num
  rw [h, Ideal.div_coe (by norm_num : (262144 : ℝ) ≠ 0)]

/-- The reference's means, entry by entry. -/
theorem means_at (X : Vec Ideal S16x3x512x512 .f32) (C : Vec Ideal S8 .f32) (W : Vec Ideal S_ .f32)
    (i : S16x24.Idx) : means X C W i = (∑ k : Fin 262144, binAt X C W (i 0) (i 1) k)
      * Ideal.div 1 (Ideal.ofBits FTy.f32 0x48800000#32) := by
  pointwise [means]
  rw [div_pixels, div_pixels 1, one_mul]
  refine congrArg (· * ((1 / 262144 : ℝ) : EReal)) ?_
  exact Finset.sum_congr rfl fun k _ => bins_at X C W (ix3 (i 0) (i 1) k)

end Cert.ReferenceIdeal.Bins
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Ref
public import Idealize.ShloMosaic.Adequacy
public import Idealize.ShloMosaic.Init
public import Idealize.ShloMosaic.Lib.Claim
public import Idealize.ShloMosaic.Lib.Pipeline.ValueKit
public import Idealize.ShloMosaic.Lib.Pointwise

@[expose] public section

noncomputable section

namespace Cert.Proof

open Idealize.ShloMosaic Idealize.SL.Sem Cert.Kernel

/-- The reference runs and leaves its arguments as they were. -/
theorem reference_unchanged
    (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal))
      (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)) := by
  hlo_run

/-- The frame of the reference: it declares no semaphore, so the counters end at zero. -/
theorem reference_frame : Cert.quiescent_ReferenceIdeal := by
  intro m g _
  exact (θ_run Cert.ReferenceIdeal.defs _ _).mono
    (fun r h => ⟨h, Idealize.ShloMosaic.sem_eq_zero_of_no_sems (by decide) r.2⟩) (reference_unchanged m g)

/-- The kernel and the reference end with equal results, entry by entry as extended reals. -/
theorem results_equal : Cert.algebraic_KernelIdeal_ReferenceIdeal := by
  pair_intro
  · run_from Cert.KernelIdeal.Gen.run_main m g
    · exact Cert.KernelIdeal.Gen.W_main_arg0 m (Cert.KernelIdeal.Gen.dats m) c
    · exact Cert.KernelIdeal.Gen.W_main_arg1 m (Cert.KernelIdeal.Gen.dats m) c
    · exact Cert.KernelIdeal.Gen.W_main_arg2 m (Cert.KernelIdeal.Gen.dats m) c
  · hlo_run
    · refine Eq.trans ?_ (Cert.KernelIdeal.Bins.result4 m c).symm
      exact funext fun i => Cert.ReferenceIdeal.Bins.means_at _ _ _ i
    · refine Eq.trans ?_ (Cert.KernelIdeal.Bins.result5 m c).symm
      exact funext fun i => Cert.ReferenceIdeal.Bins.bins_at _ _ _ i

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial,
  results_equal⟩

end Cert.Proof

end
